-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_01_row0_finite [hPre_mask_01_row0_finite : Cert.Pre_mask_01_row0_finite.Facts] (m : (ℓ : Loc Cert.KernelIdeal.nD Cert.KernelIdeal.τ Cert.KernelIdeal.sig) → Buf (Elt Ideal) ℓ) : Prop :=
  ∀ c : Dev Cert.KernelIdeal.nD,
    (Cert.Pre_mask_01_row0_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_mask_01_row0_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_01_row0_finite [hPre_mask_01_row0_finite : Cert.Pre_mask_01_row0_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_01_row0_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_mask_01_row0_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_mask_01_row0_finite [hKernelIdeal : Cert.KernelIdeal.Facts] [hPre_mask_01_row0_finite : Cert.Pre_mask_01_row0_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_01_row0_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_mask_01_row0_finite [hReferenceIdeal : Cert.ReferenceIdeal.Facts] [hPre_mask_01_row0_finite : Cert.Pre_mask_01_row0_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_01_row0_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_mask_01_row0_finite [hKernelIdeal : Cert.KernelIdeal.Facts] [hReferenceIdeal : Cert.ReferenceIdeal.Facts] [hPre_mask_01_row0_finite : Cert.Pre_mask_01_row0_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_01_row0_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_mask_01_row0_finite : Cert.Pre_mask_01_row0_finite.Facts),
    quiescent_Kernel (hKernel := hKernel)
    ∧ quiescent_KernelIdeal (hKernelIdeal := hKernelIdeal)
    ∧ quiescent_KernelIdeal_pre_mask_01_row0_finite (hKernelIdeal := hKernelIdeal) (hPre_mask_01_row0_finite := hPre_mask_01_row0_finite)
    ∧ quiescent_ReferenceIdeal (hReferenceIdeal := hReferenceIdeal)
    ∧ quiescent_ReferenceIdeal_pre_mask_01_row0_finite (hReferenceIdeal := hReferenceIdeal) (hPre_mask_01_row0_finite := hPre_mask_01_row0_finite)
    ∧ preserves_Kernel_KernelIdeal
    ∧ algebraic_KernelIdeal_ReferenceIdeal_pre_mask_01_row0_finite (hKernelIdeal := hKernelIdeal) (hReferenceIdeal := hReferenceIdeal) (hPre_mask_01_row0_finite := hPre_mask_01_row0_finite)
-- ==== Pre_mask_01_row0_finite.lean ====
abbrev S4x8192x768 : Shape := ⟨3, ![4, 8192, 768]⟩
abbrev S4x8192x4 : Shape := ⟨3, ![4, 8192, 4]⟩
abbrev S4x8192 : Shape := ⟨2, ![4, 8192]⟩
abbrev S2x768 : Shape := ⟨2, ![2, 768]⟩
abbrev S_ : Shape := ⟨0, ![]⟩
abbrev S1x768 : Shape := ⟨2, ![1, 768]⟩
abbrev S768 : Shape := ⟨1, ![768]⟩

class Facts : Prop where
  bcast_S_S4x8192 : S_.BroadcastsInDim S4x8192 (![] : Fin 0 → Fin S4x8192.rank)
  slices_S2x768_S1x768_0_0 : S2x768.Slices ![0, 0] S1x768
  shapeCasts_S1x768_S768 : S1x768.ShapeCasts S768
  bcast_S_S768 : S_.BroadcastsInDim S768 (![] : Fin 0 → Fin S768.rank)

variable [Facts]

def fn {F : FTy → Type} [FloatOps F] (main_arg0 : FVec F S4x8192x768 .f32) (main_arg1 : FVec F S4x8192x4 .f32) (main_arg2 : IVec S4x8192 32) (main_arg3 : FVec F S2x768 .f32) : IVec S4x8192 1 × IVec S768 1 :=
  let main_c : IVec S_ 32 := constantI S_ 32 0#32
  let main_v0 : IVec S4x8192 32 := broadcastInDim S4x8192 ![] bcast_S_S4x8192 main_c
  let main_v1 : IVec S4x8192 1 := cmpi .sge main_arg2 main_v0
  let main_c_0 : IVec S_ 32 := constantI S_ 32 1#32
  let main_v2 : IVec S4x8192 32 := broadcastInDim S4x8192 ![] bcast_S_S4x8192 main_c_0
  let main_v3 : IVec S4x8192 1 := cmpi .sle main_arg2 main_v2
  let main_v4 : IVec S4x8192 1 := andi main_v1 main_v3
  let main_v5 : FVec F S1x768 .f32 := (extractStridedSlice S1x768 ![0, 0] · slices_S2x768_S1x768_0_0) main_arg3
  let main_v6 : FVec F S768 .f32 := shapeCast S768 main_v5 shapeCasts_S1x768_S768
  let main_v7 : FVec F S768 .f32 := Host.absf main_v6
  let main_cst : FVec F S_ .f32 := constant S_ .f32 0x7F800000#32
  let main_v8 : FVec F S768 .f32 := broadcastInDim S768 ![] bcast_S_S768 main_cst
  let main_v9 : IVec S768 1 := cmpf .olt main_v7 main_v8
  (main_v4, main_v9)
-- ==== Kernel.lean ====
abbrev S4x8192x768 : Shape := ⟨3, ![4, 8192, 768]⟩
abbrev S4x8192x4 : Shape := ⟨3, ![4, 8192, 4]⟩
abbrev S4x8192 : Shape := ⟨2, ![4, 8192]⟩
abbrev S2x768 : Shape := ⟨2, ![2, 768]⟩
abbrev S32768x768 : Shape := ⟨2, ![32768, 768]⟩
abbrev S32768x1 : Shape := ⟨2, ![32768, 1]⟩
abbrev S4096x768 : Shape := ⟨2, ![4096, 768]⟩
abbrev S4096x1 : Shape := ⟨2, ![4096, 1]⟩
abbrev S1x768 : Shape := ⟨2, ![1, 768]⟩

abbrev nBuf : Space → Nat
  | .hbm => 8
  | .vmem => 7
  | .smem => 0
  | _ => 0

abbrev bufTy : (tb : Table) → Fin (tcTables nBuf tb) → BufTy
  | .hbm, ⟨0, _⟩ => ⟨S4x8192x768, .f32⟩
  | .hbm, ⟨1, _⟩ => ⟨S4x8192x4, .f32⟩
  | .hbm, ⟨2, _⟩ => ⟨S4x8192, .i32⟩
  | .hbm, ⟨3, _⟩ => ⟨S2x768, .f32⟩
  | .hbm, ⟨4, _⟩ => ⟨S32768x768, .f32⟩
  | .hbm, ⟨5, _⟩ => ⟨S32768x1, .i32⟩
  | .hbm, ⟨6, _⟩ => ⟨S32768x768, .f32⟩
  | .hbm, ⟨7, _⟩ => ⟨S4x8192x768, .f32⟩
  | .local _ .vmem, ⟨0, _⟩ => ⟨S4096x768, .f32⟩
  | .local _ .vmem, ⟨1, _⟩ => ⟨S4096x768, .f32⟩
  | .local _ .vmem, ⟨2, _⟩ => ⟨S4096x1, .i32⟩
  | .local _ .vmem, ⟨3, _⟩ => ⟨S4096x1, .i32⟩
  | .local _ .vmem, ⟨4, _⟩ => ⟨S2x768, .f32⟩
  | .local _ .vmem, ⟨5, _⟩ => ⟨S4096x768, .f32⟩
  | .local _ .vmem, ⟨6, _⟩ => ⟨S4096x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x8192x768 : Shape := ⟨3, ![4, 8192, 768]⟩
abbrev S4x8192x4 : Shape := ⟨3, ![4, 8192, 4]⟩
abbrev S4x8192 : Shape := ⟨2, ![4, 8192]⟩
abbrev S2x768 : Shape := ⟨2, ![2, 768]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S4x8192x4, .f32⟩
  | .hbm, ⟨2, _⟩ => ⟨S4x8192, .i32⟩
  | .hbm, ⟨3, _⟩ => ⟨S2x768, .f32⟩
  | .hbm, ⟨4, _⟩ => ⟨S_, .i32⟩
  | .hbm, ⟨5, _⟩ => ⟨S4x8192, .i32⟩
  | .hbm, ⟨6, _⟩ => ⟨S4x8192, .i1⟩
  | .hbm, ⟨7, _⟩ => ⟨S_, .i32⟩
  | .hbm, ⟨8, _⟩ => ⟨S4x8192, .i32⟩
  | .hbm, ⟨9, _⟩ => ⟨S4x8192, .i32⟩
  | .hbm, ⟨10, _⟩ => ⟨S4x8192, .i32⟩
  | .hbm, ⟨11, _⟩ => ⟨S4x8192x1, .i32⟩
  | .hbm, ⟨12, _⟩ => ⟨S1, .i32⟩
  | .hbm, ⟨13, _⟩ => ⟨S_, .i32⟩
  | .hbm, ⟨14, _⟩ => ⟨S4x8192x1, .i32⟩
  | .hbm, ⟨15, _⟩ => ⟨S4x8192x1, .i1⟩
  | .hbm, ⟨16, _⟩ => ⟨S1x1x1, .i32⟩
  | .hbm, ⟨17, _⟩ => ⟨S4x8192x1, .i32⟩
  | .hbm, ⟨18, _⟩ => ⟨S4x8192x1, .i1⟩
  | .hbm, ⟨19, _⟩ => ⟨S4x8192x1, .i1⟩
  | .hbm, ⟨20, _⟩ => ⟨S_, .i1⟩
  | .hbm, ⟨21, _⟩ => ⟨S4x8192, .i1⟩
  | .hbm, ⟨22, _⟩ => ⟨S4x8192x768, .f32⟩
  | .hbm, ⟨23, _⟩ => ⟨S4x8192x768, .i1⟩
  | .hbm, ⟨24, _⟩ => ⟨S_, .f32⟩
  | .hbm, ⟨25, _⟩ => ⟨S4x8192x768, .f32⟩
  | .hbm, ⟨26, _⟩ => ⟨S4x8192x768, .f32⟩
  | .hbm, ⟨27, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩

abbrev nD : Nat := 1
abbrev τ : Topo := Topo.v7x

variable {F : FTy → Type} [FloatOps F]
-- ==== Proof.Blend.lean ====
/-
  The equation between the two programs at one element: the kernel adds row 0 of the table and then the mask times the
  difference of the two rows; the reference adds the row the mask names. Also what the precondition says at one element:
  a mask entry is 0 or 1, and an entry of row 0 is finite.
-/
module

public import Idealize.ShloMosaic.Lib.Pointwise.Tactic
public import Idealize.ShloMosaic.Lib.Affine
public import Idealize.ShloMosaic.PureOps.Ideal

@[expose] public section

noncomputable section

namespace Cert.Blend

open Idealize.ShloMosaic

/-- What the kernel computes from an entry `x`, a mask word `w` and the two table entries of the column. -/
def mix {F : FTy → Type} [FloatOps F] (x : F .f32) (w : BitVec 32) (e0 e1 : F .f32) : F .f32 :=
  FloatOps.addf (FloatOps.addf x e0) (FloatOps.mulf (FloatOps.sitofp .f32 w) (FloatOps.subf e1 e0))

/-- A word between 0 and 1, read signed, is one of the two. -/
theorem word_zero_or_one {w : BitVec 32}
    (h : IntOp.andi (IntOp.cmpi .sge w 0#32) (IntOp.cmpi .sle w 1#32) = 1#1) : w = 0#32 ∨ w = 1#32 := by
  obtain ⟨hge, hle⟩ := IntOp.andi_eq_one.1 h
  have h0 : (0#32 : BitVec 32).toInt ≤ w.toInt := IntOp.cmpi_sge.1 hge
  have h1 : w.toInt ≤ (1#32 : BitVec 32).toInt := IntOp.cmpi_sle.1 hle
  have e0 : (0#32 : BitVec 32).toInt = 0 := by decide
  have e1 : (1#32 : BitVec 32).toInt = 1 := by decide
  rw [e0] at h0
  rw [e1] at h1
  rcases (by omega : w.toInt = 0 ∨ w.toInt = 1) with e | e
  · exact Or.inl (BitVec.eq_of_toInt_eq (e.trans e0.symm))
  · exact Or.inr (BitVec.eq_of_toInt_eq (e.trans e1.symm))

/-- An extended real whose absolute value is below `+∞` is neither infinity. -/
theorem finite_of_abs_lt {e : Ideal .f32}
    (h : FloatOps.cmpf .olt (FloatOps.hostAbsf e) (FloatOps.ofBits (F := Ideal) .f32 0x7F800000#32) = 1#1) :
    (e : EReal) ≠ ⊤ ∧ (e : EReal) ≠ ⊥ := by
  have inf : FloatOps.ofBits (F := Ideal) .f32 0x7F800000#32 = (⊤ : EReal) := by
    simp [Ideal.ofBits, Ideal.ieee]
  rw [inf] at h
  have lt : max (e : EReal) (-e) < ⊤ := by
    have h' : BitVec.ofBool (decide (max (e : EReal) (-e) < ⊤)) = 1#1 := h
    by_contra hn
    rw [decide_eq_false hn] at h'
    exact absurd h' (by decide)
  obtain ⟨h1, h2⟩ := max_lt_iff.1 lt
  refine ⟨h1.ne, fun hb => h2.ne ?_⟩
  rw [hb, EReal.neg_bot]

/-- Mask word 0: the difference of the rows is multiplied by zero, whatever it is, and row 0 is left. -/
theorem mix_zero (x e0 e1 : Ideal .f32) : mix x 0#32 e0 e1 = FloatOps.addf x e0 := by
  show ((x : EReal) + e0) + (((0#32 : BitVec 32).toInt : ℝ) : EReal) * ((e1 : EReal) - e0) = (x : EReal) + e0
  have e : (0#32 : BitVec 32).toInt = 0 := by decide
  rw [e, Int.cast_zero, EReal.coe_zero, zero_mul, add_zero]

/-- Mask word 1: row 0 is added and, being finite, subtracted again; row 1 is left. -/
theorem mix_one (x e0 e1 : Ideal .f32) (ht : (e0 : EReal) ≠ ⊤) (hb : (e0 : EReal) ≠ ⊥) :
    mix x 1#32 e0 e1 = FloatOps.addf x e1 := by
  show ((x : EReal) + e0) + (((1#32 : BitVec 32).toInt : ℝ) : EReal) * ((e1 : EReal) - e0) = (x : EReal) + e1
  have e : (1#32 : BitVec 32).toInt = 1 := by decide
  rw [e, Int.cast_one, EReal.coe_one, one_mul, add_assoc]
  congr 1
  lift (e0 : EReal) to ℝ using ⟨ht, hb⟩ with r
  rw [add_comm, sub_eq_add_neg, add_assoc, ← EReal.coe_neg, ← EReal.coe_add, neg_add_cancel, EReal.coe_zero, add_zero]

end Cert.Blend

end
-- ==== Proof.KernelRows.lean ====
/-
  The kernel's result as one function of the arguments. The eight grid points each write 4096 rows of the flat
  [32768, 768] array, and what each writes is its block of one whole-array function, `rows`; the blocks tile the array.
  The reshapes before and after the kernel are then read at an index: entry (b, l, d) of the result is
  `Blend.mix` of the entry of x, the mask's entry (b, l) and the two table entries of column d.
-/
module

public import proofs.«01_k».proof.Proof.Gen.KernelIdeal.Frame
public import proofs.«01_k».proof.Proof.Blend
public import Idealize.ShloMosaic.Lib.Pipeline.Value
public import Idealize.ShloMosaic.Lib.StableHlo.Run
public import Idealize.ShloMosaic.Lib.Pointwise

@[expose] public section

noncomputable section

namespace Cert.KernelRows

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## One block -/

theorem zeros : (![0, 0] : Fin 2 → Nat) = fun _ => 0 := funext fun a => by fin_cases a <;> rfl

/-- The body's stored block at an entry, from the block of x, the block of the mask and the table. -/
theorem block_apply (x0 : Vec F S4096x768 .f32) (x1 : Vec F S4096x1 .i32) (x2 : Vec F S2x768 .f32) (r : Fin 4096) (d : Fin 768) :
    out0_3 x0 x1 x2 (ix2 r d) = Blend.mix (x0 (ix2 r d)) (x1 (ix2 r (0 : Fin 1))) (x2 (ix2 (0 : Fin 2) d)) (x2 (ix2 (1 : Fin 2) d)) := by
  unfold out0_3
  rw [View.canon_unit_zero zeros, View.ld_unit_zero zeros, View.ld_unit_zero zeros, View.ld_unit, View.ld_unit]
  unfold Blend.mix
  pointwise [k0_pay1]

/-! ## The flat array -/

/-- The flat result: what the array the kernel writes is shown to hold. -/
def rows (c : Dev nD) : S32768x768.Idx → Elt F .f32 := fun i =>
  Blend.mix (V m c main_v0 i) (V m c main_v1 (ix2 (i 0) (0 : Fin 1))) (V m c main_arg3 (ix2 (0 : Fin 2) (i 1))) (V m c main_arg3 (ix2 (1 : Fin 2) (i 1)))

/-- Where the four windows' blocks lie at a grid point: the first, second and last move down the rows together, the
    table's block is the whole table. -/
theorem index_facts : ∀ t : Fin cfg0.N,
    (win0_0.index t 0 = t.val ∧ win0_0.index t 1 = 0) ∧ (win0_1.index t 0 = t.val ∧ win0_1.index t 1 = 0)
      ∧ (win0_2.index t 0 = 0 ∧ win0_2.index t 1 = 0) ∧ (win0_3.index t 0 = t.val ∧ win0_3.index t 1 = 0) :=
  (by decide +kernel : ∀ t : Fin grid0.N, _)

/-- What point `t` writes back is block `t` of `rows`. -/
theorem flushed_rows (c : Dev nD) (t : Fin cfg0.N) :
    (dats m 0 c).flushed 3 t = ((cfg0.win 3).blk t).view.read (Elt F) (rows m c) := by
  show (cfg0.win 3).cut (grid0.coords t) ((dats m 0 c).after 3 t) = _
  rw [after0_3]
  obtain ⟨⟨h00, h01⟩, ⟨h10, h11⟩, ⟨h20, h21⟩, ⟨h30, h31⟩⟩ := index_facts t
  funext y
  obtain ⟨r, d, rfl⟩ : ∃ (r : Fin 4096) (d : Fin 768), y = ix2 r d := ⟨y 0, y 1, eq_ix2 y⟩
  refine (block_apply _ _ _ r d).trans ?_
  have e3 : ∀ a, ((win0_3.rect t).emb (ix2 r d) a : Nat) = win0_3.index t a * win0_3.size a + (ix2 r d : S4096x768.Idx) a :=
    win0_3.rect_emb_val t (ix2 r d)
  have x0 : iblk m c 0 t (ix2 r d) = V m c main_v0 ((win0_3.rect t).emb (ix2 r d)) := by
    show V m c main_v0 ((win0_0.rect t).emb (ix2 r d)) = _
    rfl
  have x1 : iblk m c 1 t (ix2 r (0 : Fin 1)) = V m c main_v1 (ix2 ((win0_3.rect t).emb (ix2 r d) 0) (0 : Fin 1)) := by
    show V m c main_v1 ((win0_1.rect t).emb (ix2 r (0 : Fin 1))) = _
    refine congrArg (V m c main_v1) (Shape.idx_ext₂ ?_ ?_)
    · rw [win0_1.rect_emb_val t, h10]; exact ((e3 0).trans (by rw [h30]; rfl)).symm
    · rw [win0_1.rect_emb_val t, h11]; rfl
  have x2 : ∀ k : Fin 2, iblk m c 2 t (ix2 k d) = V m c main_arg3 (ix2 k ((win0_3.rect t).emb (ix2 r d) 1)) := fun k => by
    show V m c main_arg3 ((win0_2.rect t).emb (ix2 k d)) = _
    refine congrArg (V m c main_arg3) (Shape.idx_ext₂ ?_ ?_)
    · rw [win0_2.rect_emb_val t, h20]; exact Nat.zero_add _
    · rw [win0_2.rect_emb_val t, h21]; exact ((e3 1).trans (by rw [h31]; rfl)).symm
  rw [x0, x1, x2, x2]
  rfl

/-- An index of the flat array is in the block of the grid point its row falls to. -/
theorem cover (i : S32768x768.Idx) :
    ∃ t : Fin cfg0.N, (cfg0.win 3).flush t = true ∧ i ∈ ((cfg0.win 3).blk t).view.set := by
  have h0 : (i 0 : Nat) < 32768 := (i 0).isLt
  have h1 : (i 1 : Nat) < 768 := (i 1).isLt
  have hN : cfg0.N = 8 := N_0
  obtain ⟨t, ht⟩ : ∃ t : Fin cfg0.N, t.val = (i 0 : Nat) / 4096 := ⟨⟨(i 0 : Nat) / 4096, by omega⟩, rfl⟩
  refine ⟨t, flush0_3 t, ?_⟩
  obtain ⟨-, -, -, ⟨h30, h31⟩⟩ := index_facts t
  show i ∈ ((View.whole main_v2).slice (win0_3.rect t)).set
  rw [View.set_slice_whole, Rect.mem_set_unit]
  intro a
  match a with
  | ⟨0, _⟩ =>
    show win0_3.index t 0 * 4096 ≤ (i 0 : Nat) ∧ (i 0 : Nat) < win0_3.index t 0 * 4096 + 4096
    rw [h30, ht]; omega
  | ⟨1, _⟩ =>
    show win0_3.index t 1 * 768 ≤ (i 1 : Nat) ∧ (i 1 : Nat) < win0_3.index t 1 * 768 + 768
    rw [h31]; omega

/-- So the flat array ends holding `rows`. -/
theorem array_eq (c : Dev nD) : (dats m 0 c).arrAt 3 cfg0.N = rows m c :=
  (dats m 0 c).arrAt_eq_of_cover 3 (rows m c) (fun t _ => flushed_rows m c t) cover

/-! ## The reshapes around the kernel -/

/-- The flat x, before the kernel, is x reshaped. -/
theorem entry_x (c : Dev nD) :
    V m c main_v0 = shapeCast S32768x768 (m ((c : Thread nD τ).loc main_arg0)) shapeCasts_S4x8192x768_S32768x768 := by
  show StableHlo.after (List.flatten [hostOps0]) (fun b => m (c, b)) _ = _
  simp only [hostOps0, List.flatten_cons, List.flatten_nil, List.append_nil]
  after_results
  rfl

/-- The mask's column, before the kernel, is the mask reshaped. -/
theorem entry_mask (c : Dev nD) :
    V m c main_v1 = shapeCast S32768x1 (m ((c : Thread nD τ).loc main_arg2)) shapeCasts_S4x8192_S32768x1 := by
  show StableHlo.after (List.flatten [hostOps0]) (fun b => m (c, b)) _ = _
  simp only [hostOps0, List.flatten_cons, List.flatten_nil, List.append_nil]
  after_results
  rfl

/-- The result, after the kernel, is the flat array reshaped. -/
theorem exit_result (c : Dev nD) :
    Pipeline.afterTail₀ cfgs (dats m) 0 (V0 m) [hostOps1] c main_v3
      = shapeCast S4x8192x768 (rows m c) shapeCasts_S32768x768_S4x8192x768 := by
  unfold Pipeline.afterTail₀
  simp only [hostOps1, List.flatten_cons, List.flatten_nil, List.append_nil]
  after_results
  have arr : Pipeline.withArrays (cfgs 0).spec c (V0 m c) (fun w => (dats m 0 c).arrAt w (cfgs 0).N) (Proc.devRef .tc main_v2)
      = rows m c :=
    (Pipeline.withArrays_arr spec0 (by decide) c (V0 m c) (fun w => (dats m 0 c).arrAt w (cfgs 0).N) 3).trans (array_eq m c)
  rw [arr]
  rfl

/-! ## The result at an index -/

/-- The kernel's result as a function of the arguments x, mask and table. -/
def result (x : S4x8192x768.Idx → Elt F .f32) (mask : S4x8192.Idx → BitVec 32) (table : S2x768.Idx → Elt F .f32) : S4x8192x768.Idx → Elt F .f32 :=
  fun i => Blend.mix (x i) (mask (ix2 (i 0) (i 1))) (table (ix2 (0 : Fin 2) (i 2))) (table (ix2 (1 : Fin 2) (i 2)))

/-- Entry (b, l, d) of the reshaped flat array is row 8192 b + l of it, which reads entry (b, l) of x and of the mask. -/
theorem result_eq (c : Dev nD) :
    shapeCast S4x8192x768 (rows m c) shapeCasts_S32768x768_S4x8192x768
      = result (m ((c : Thread nD τ).loc main_arg0)) (m ((c : Thread nD τ).loc main_arg2)) (m ((c : Thread nD τ).loc main_arg3)) := by
  funext i
  obtain ⟨b, l, d, rfl⟩ : ∃ (b : Fin 4) (l : Fin 8192) (d : Fin 768), i = ix3 b l d := ⟨i 0, i 1, i 2, eq_ix3 i⟩
  unfold rows result
  have hr : b.val * 8192 + l.val < 32768 := by omega
  rw [shapeCast_apply _ _ (ix3 b l d) (ix2 (⟨b.val * 8192 + l.val, hr⟩ : Fin 32768) d) (by
    rw [Shape.rowMajor_val_two, Shape.rowMajor_val_three]; rfl)]
  rw [entry_x, entry_mask, V_main_arg3]
  dsimp only [ix2_0, ix2_1, ix3_0, ix3_1, ix3_2]
  rw [shapeCast_apply _ shapeCasts_S4x8192x768_S32768x768 (ix2 (⟨b.val * 8192 + l.val, hr⟩ : Fin 32768) d) (ix3 b l d) (by
      rw [Shape.rowMajor_val_two, Shape.rowMajor_val_three]; rfl),
    shapeCast_apply _ shapeCasts_S4x8192_S32768x1 (ix2 (⟨b.val * 8192 + l.val, hr⟩ : Fin 32768) (0 : Fin 1)) (ix2 b l) (by
      rw [Shape.rowMajor_val_two, Shape.rowMajor_val_two]
      show b.val * 8192 + l.val = (b.val * 8192 + l.val) * 1 + 0
      omega)]

/-- The run: the result array holds `result` of the arguments, and the arguments are unchanged. -/
theorem run : θ_run defs (onTc (τ := τ) (main (F := F))) ⟨m, fun _ => 0, ρ⟩ fun r => ∀ c : Dev nD,
      r.2.mem ((c : Thread nD τ).loc main_v3)
        = result (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v3 (Pipeline.mem_restRefs_of main_v3 (by decide) (by decide))).trans ((exit_result m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c)))⟩)
    (run_main m ρ)

end Cert.KernelRows

end
-- ==== Proof.ReferenceRows.lean ====
/-
  The reference's result at an index, where the mask holds only 0 and 1. `jnp.take` wraps a negative index, gathers the
  rows and replaces the rows whose index is out of range by a fill value; with every index in range the wrap changes
  nothing and the fill is never chosen, so entry (b, l, d) is x plus the table's entry in the row the mask names.
-/
module

public import proofs.«01_k».proof.Proof.Gen.ReferenceIdeal.Read
public import Idealize.ShloMosaic.Lib.Pipeline.Value
public import Idealize.ShloMosaic.Lib.Pointwise
public import Idealize.ShloMosaic.Lib.ReduceAll

@[expose] public section

noncomputable section

namespace Cert.ReferenceRows

open Cert.ReferenceIdeal Cert.ReferenceIdeal.Gen Cert.ReferenceIdeal.Read
open Idealize.ShloMosaic Idealize.ShloMosaic.TcCoe

variable {F : FTy → Type} [FloatOps F]

/-! ## The gather of rows -/

/-- The place in the start indices that result index `i` reads. -/
abbrev startPlace (i : S4x8192x768.Idx) : S4x8192x1.Idx := ix3 (i 0) (i 1) (0 : Fin 1)

/-- The gather at an index: the table's entry in the row the start index names, clamped into the table. -/
theorem gather_apply {α : Type} (table : S2x768.Idx → α) (idx : IVec S4x8192x1 32) (i : S4x8192x768.Idx) :
    Host.gather gather_S2x768_S4x8192x1_S4x8192x768_2_0_n_n_0_2_1768 table idx i
      = table (ix2 (⟨min (idx (startPlace i)).toInt.toNat 1, by omega⟩ : Fin 2) (i 2)) := by
  unfold Host.gather
  refine congrArg table (Shape.idx_ext₂ ?_ ?_)
  · show GatherDims.start _ i idx 0 + GatherDims.batchCoord _ i 0 + GatherDims.offCoord _ i 0 = min (idx (startPlace i)).toInt.toNat 1
    rw [GatherDims.batchCoord_eq_zero _ _ _ List.not_mem_nil,
      GatherDims.offCoord_eq_zero _ _ _ (by decide)]
    show GatherDims.start gather_S2x768_S4x8192x1_S4x8192x768_2_0_n_n_0_2_1768 i idx 0 = _
    unfold GatherDims.start
    rw [dif_pos (by decide)]
    refine congrArg (fun p => min (idx p).toInt.toNat 1) ?_
    funext b
    match b with
    | ⟨0, _⟩ => rfl
    | ⟨1, _⟩ => rfl
    | ⟨2, _⟩ => rfl
  · show GatherDims.start _ i idx 1 + GatherDims.batchCoord _ i 1 + GatherDims.offCoord _ i 1 = (i 2 : Nat)
    rw [GatherDims.batchCoord_eq_zero _ _ _ List.not_mem_nil]
    unfold GatherDims.start
    rw [dif_neg (by decide)]
    unfold GatherDims.offCoord
    rw [dif_pos (by decide), Nat.zero_add]
    rfl

/-! ## The index after the wrap, and the range test -/

/-- A mask entry that is 0 or 1 is not wrapped. -/
theorem wrapped_apply (mask : (⟨S4x8192, .i32⟩ : BufTy).Contents (Elt F)) (h : ∀ j : S4x8192.Idx, mask j = 0#32 ∨ mask j = 1#32) (j : S4x8192.Idx) :
    val_main_call0_v4 (F := F) mask j = mask j := by
  rw [val_main_call0_v4_apply, val_main_call0_v1_apply, val_main_call0_v0_apply, val_main_call0_c_apply]
  have hn : IntOp.cmpi .slt (mask j) 0#32 = 0#1 := by
    rcases h j with e | e <;> rw [e] <;> decide
  rw [hn]
  rfl

/-- So every start index is in range, -/
theorem in_range_apply (mask : (⟨S4x8192, .i32⟩ : BufTy).Contents (Elt F)) (h : ∀ j : S4x8192.Idx, mask j = 0#32 ∨ mask j = 1#32) (k : S4x8192x1.Idx) :
    val_main_call0_v11 (F := F) mask k = 1#1 := by
  rw [val_main_call0_v11_apply, val_main_call0_v7_apply, val_main_call0_v10_apply, val_main_call0_v6_apply,
    val_main_call0_v9_apply, val_main_call0_v8_apply, val_main_call0_c_1_apply, val_main_call0_c_2_apply,
    val_main_call0_v5_apply, wrapped_apply mask h]
  rcases h (idx_main_call0_v5 k) with e | e <;> rw [e] <;> rfl

/-- and the conjunction over the index's one component holds everywhere. -/
theorem all_in_range (mask : (⟨S4x8192, .i32⟩ : BufTy).Contents (Elt F)) (h : ∀ j : S4x8192.Idx, mask j = 0#32 ∨ mask j = 1#32) (j : S4x8192.Idx) :
    val_main_call0_v12 (F := F) mask j = 1#1 :=
  Host.reduce_andi_one _ _ _ _ j (val_main_call0_c_3_apply _) (in_range_apply mask h)

/-! ## The result -/

/-- The reference at an index. -/
theorem result_apply (x : (⟨S4x8192x768, .f32⟩ : BufTy).Contents (Elt F)) (mask : (⟨S4x8192, .i32⟩ : BufTy).Contents (Elt F))
    (table : (⟨S2x768, .f32⟩ : BufTy).Contents (Elt F)) (h : ∀ j : S4x8192.Idx, mask j = 0#32 ∨ mask j = 1#32) (i : S4x8192x768.Idx) :
    val_main_v1 (F := F) x mask table i
      = FloatOps.addf (x i) (table (ix2 (⟨min (mask (ix2 (i 0) (i 1))).toInt.toNat 1, by omega⟩ : Fin 2) (i 2))) := by
  have he : val_main_call0_v5 (F := F) mask (startPlace i) = mask (ix2 (i 0) (i 1)) := by
    rw [val_main_call0_v5_apply, wrapped_apply mask h]
    exact congrArg mask (Shape.idx_ext₂ rfl rfl)
  rw [val_main_v1_apply, val_main_v0_apply, val_main_call0_v14_apply, all_in_range mask h]
  show FloatOps.addf (x i) (val_main_call0_v13 (F := F) mask table i) = _
  unfold val_main_call0_v13
  rw [gather_apply]
  simp only [he]

end Cert.ReferenceRows

end
-- ==== Proof.Precondition.lean ====
/-
  What the precondition gives at one index: a mask entry is 0 or 1, and an entry of the table's row 0 is finite.
-/
module

public import proofs.«01_k».proof.Pre_mask_01_row0_finite
public import proofs.«01_k».proof.Proof.Blend
public import Idealize.ShloMosaic.Lib.Pipeline.Value
public import Idealize.ShloMosaic.Lib.Pointwise

@[expose] public section

noncomputable section

namespace Cert.Precondition

open Cert.Pre_mask_01_row0_finite Cert.Pre_mask_01_row0_finite.Facts
open Idealize.ShloMosaic

variable [Facts] {x : FVec Ideal S4x8192x768 .f32} {mark : FVec Ideal S4x8192x4 .f32} {mask : IVec S4x8192 32} {table : FVec Ideal S2x768 .f32}

/-- Every mask entry is 0 or 1. -/
theorem mask_zero_or_one (h : (fn x mark mask table).1 = fun _ => 1#1) (j : S4x8192.Idx) : mask j = 0#32 ∨ mask j = 1#32 :=
  Blend.word_zero_or_one (congrFun h j)

/-- Row 0 of the table, taken as a slice and then flattened, at a column. -/
theorem row0_apply (d : Fin 768) :
    shapeCast S768 (extractStridedSlice S1x768 ![0, 0] table slices_S2x768_S1x768_0_0) shapeCasts_S1x768_S768 (ix1 d)
      = table (ix2 (0 : Fin 2) d) := by
  rw [shapeCast_apply _ _ (ix1 d) (ix2 (0 : Fin 1) d) (by
    rw [Shape.rowMajor_val_two, Shape.rowMajor_val_one]
    show 0 * 768 + d.val = d.val
    omega)]
  exact congrArg table (Shape.idx_ext₂ rfl (Nat.zero_add _))

/-- Every entry of row 0 is finite. -/
theorem row0_finite (h : (fn x mark mask table).2 = fun _ => 1#1) (d : Fin 768) :
    (table (ix2 (0 : Fin 2) d) : EReal) ≠ ⊤ ∧ (table (ix2 (0 : Fin 2) d) : EReal) ≠ ⊥ := by
  have hd := congrFun h (ix1 d)
  refine Blend.finite_of_abs_lt (e := table (ix2 (0 : Fin 2) d)) ?_
  rw [← row0_apply (table := table) d]
  exact hd

end Cert.Precondition

end
-- ==== Proof.lean ====
/-
  The assembly of the certificate: the frames of the three programs, and the kernel's result equal to the reference's
  over exact reals. `KernelRows` and `ReferenceRows` read the two results at an index, `Precondition` reads the
  precondition there, and `Blend` is the equation at one element.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_mask_01_row0_finite
public import proofs.«01_k».proof.Proof.Blend
public import proofs.«01_k».proof.Proof.KernelRows
public import proofs.«01_k».proof.Proof.ReferenceRows
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame: it starts from counters at zero and holds no semaphore. -/
theorem reference_frame : Cert.quiescent_ReferenceIdeal := fun m g _ =>
  (θ_run (Cert.ReferenceIdeal.defs (F := Ideal)) _ _).mono
    (fun r h => ⟨fun c => (h c).2, sem_eq_zero_of_no_sems (by decide) r.2⟩)
    (Cert.ReferenceIdeal.Value.run (F := Ideal) m g)

/-- The two results are equal on arguments that satisfy the precondition. -/
theorem result_eq (x : Cert.KernelIdeal.S4x8192x768.Idx → Elt Ideal .f32) (mark : FVec Ideal Cert.Pre_mask_01_row0_finite.S4x8192x4 .f32)
    (mask : Cert.KernelIdeal.S4x8192.Idx → Elt Ideal .i32) (table : Cert.KernelIdeal.S2x768.Idx → Elt Ideal .f32)
    (h : (Cert.Pre_mask_01_row0_finite.fn x mark mask table).1 = (fun _ => 1#1)
      ∧ (Cert.Pre_mask_01_row0_finite.fn x mark mask table).2 = fun _ => 1#1) :
    Cert.ReferenceIdeal.Read.val_main_v1 (F := Ideal) x mask table = Cert.KernelRows.result (F := Ideal) x mask table := by
  have hm := Cert.Precondition.mask_zero_or_one h.1
  funext i
  rw [Cert.ReferenceRows.result_apply x mask table hm]
  unfold Cert.KernelRows.result
  obtain ⟨ht, hb⟩ := Cert.Precondition.row0_finite h.2 (i 2)
  rcases hm (ix2 (i 0) (i 1)) with e | e
  · simp only [e]
    exact (Cert.Blend.mix_zero _ _ _).symm
  · simp only [e]
    exact (Cert.Blend.mix_one _ _ _ ht hb).symm

/-- The kernel equals the reference, over exact reals, under the precondition. -/
theorem algebraic : Cert.algebraic_KernelIdeal_ReferenceIdeal_pre_mask_01_row0_finite := by
  intro m g m' g' hpre hagree
  refine ⟨fun c => Cert.KernelRows.result (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelRows.run (F := Ideal) m g, ?_⟩
  refine (θ_run _ _ _).mono (fun r h c => ⟨(h c).1.trans ?_, (h c).2⟩) (Cert.ReferenceIdeal.Value.run (F := Ideal) m' g')
  obtain ⟨a0, -, a2, a3⟩ := hagree c
  rw [a0, a2, a3]
  exact (Cert.ReferenceIdeal.Read.val_main_v1_eq _ _ _).trans (result_eq _ _ _ _ (hpre c))

/-- Everything the certificate claims. -/
theorem claim : Cert.Claim :=
  ⟨Cert.Kernel.Gen.facts, Cert.KernelIdeal.Gen.facts, Cert.ReferenceIdeal.Gen.facts, Cert.Pre_mask_01_row0_finite.Gen.facts,
    fun m g _ => Cert.Kernel.Gen.frame m g,
    fun m g _ => Cert.KernelIdeal.Gen.frame m g,
    fun m g _ => Cert.KernelIdeal.Gen.frame m g,
    fun m g _ => reference_frame m g trivial,
    fun m g _ => reference_frame m g trivial,
    trivial, algebraic⟩

end Cert.Proof

end
